-- ==== Defs.lean ====
def Pre_Kernel (m : (ℓ : Loc Cert.Kernel.nD Cert.Kernel.τ Cert.Kernel.sig) → Buf (Elt Bits) ℓ) : Prop :=
  True

def Pre_Reference (m : (ℓ : Loc Cert.Reference.nD Cert.Reference.τ Cert.Reference.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v1)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v2) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hReference : Cert.Reference.Facts) (hKernelIdeal : Cert.KernelIdeal.Facts) (hReferenceIdeal : Cert.ReferenceIdeal.Facts),
    quiescent_Kernel (hKernel := hKernel)
    ∧ quiescent_Reference (hReference := hReference)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S4x8192 : Shape := ⟨2, ![4, 8192]⟩
abbrev S8192x1024 : Shape := ⟨2, ![8192, 1024]⟩
abbrev S512x1024 : Shape := ⟨2, ![512, 1024]⟩
abbrev S1x8192x1024 : Shape := ⟨3, ![1, 8192, 1024]⟩

abbrev nBuf : Space → Nat
  | .hbm => 4
  | .vmem => 4
  | .smem => 0
  | _ => 0

abbrev bufTy : (tb : Table) → Fin (tcTables nBuf tb) → BufTy
  | .hbm, ⟨0, _⟩ => ⟨S4x8192, .i32⟩
  | .hbm, ⟨1, _⟩ => ⟨S8192x1024, .f32⟩
  | .hbm, ⟨2, _⟩ => ⟨S8192x1024, .f32⟩
  | .hbm, ⟨3, _⟩ => ⟨S1x8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | _, _ => ⟨S4x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S4x8192 : Shape := ⟨2, ![4, 8192]⟩
abbrev S8192x1024 : Shape := ⟨2, ![8192, 1024]⟩
abbrev S8192 : Shape := ⟨1, ![8192]⟩
abbrev S1x8192 : Shape := ⟨2, ![1, 8192]⟩
abbrev S_ : Shape := ⟨0, ![]⟩
abbrev S1x8192x1 : Shape := ⟨3, ![1, 8192, 1]⟩
abbrev S1 : Shape := ⟨1, ![1]⟩
abbrev S1x1x1 : Shape := ⟨3, ![1, 1, 1]⟩
abbrev S1x8192x1024 : Shape := ⟨3, ![1, 8192, 1024]⟩

abbrev nBuf : Space → Nat
  | .hbm => 27
  | .vmem => 0
  | .smem => 0
  | _ => 0

abbrev bufTy : (tb : Table) → Fin (tcTables nBuf tb) → BufTy
  | .hbm, ⟨0, _⟩ => ⟨S4x8192, .i32⟩
  | .hbm, ⟨1, _⟩ => ⟨S8192x1024, .f32⟩
  | .hbm, ⟨2, _⟩ => ⟨S8192, .i32⟩
  | .hbm, ⟨3, _⟩ => ⟨S1x8192, .i32⟩
  | .hbm, ⟨4, _⟩ => ⟨S_, .i32⟩
  | .hbm, ⟨5, _⟩ => ⟨S1x8192, .i32⟩
  | .hbm, ⟨6, _⟩ => ⟨S1x8192, .i1⟩
  | .hbm, ⟨7, _⟩ => ⟨S_, .i32⟩
  | .hbm, ⟨8, _⟩ => ⟨S1x8192, .i32⟩
  | .hbm, ⟨9, _⟩ => ⟨S1x8192, .i32⟩
  | .hbm, ⟨10, _⟩ => ⟨S1x8192, .i32⟩
  | .hbm, ⟨11, _⟩ => ⟨S1x8192x1, .i32⟩
  | .hbm, ⟨12, _⟩ => ⟨S1, .i32⟩
  | .hbm, ⟨13, _⟩ => ⟨S_, .i32⟩
  | .hbm, ⟨14, _⟩ => ⟨S1x8192x1, .i32⟩
  | .hbm, ⟨15, _⟩ => ⟨S1x8192x1, .i1⟩
  | .hbm, ⟨16, _⟩ => ⟨S1x1x1, .i32⟩
  | .hbm, ⟨17, _⟩ => ⟨S1x8192x1, .i32⟩
  | .hbm, ⟨18, _⟩ => ⟨S1x8192x1, .i1⟩
  | .hbm, ⟨19, _⟩ => ⟨S1x8192x1, .i1⟩
  | .hbm, ⟨20, _⟩ => ⟨S_, .i1⟩
  | .hbm, ⟨21, _⟩ => ⟨S1x8192, .i1⟩
  | .hbm, ⟨22, _⟩ => ⟨S1x8192x1024, .f32⟩
  | .hbm, ⟨23, _⟩ => ⟨S1x8192x1024, .i1⟩
  | .hbm, ⟨24, _⟩ => ⟨S_, .f32⟩
  | .hbm, ⟨25, _⟩ => ⟨S1x8192x1024, .f32⟩
  | .hbm, ⟨26, _⟩ => ⟨S1x8192x1024, .f32⟩
  | _, _ => ⟨S4x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v2 : Ref sig .tc := ⟨.hbm, 26, rfl⟩

abbrev nD : Nat := 1
abbrev τ : Topo := Topo.v7x

variable {F : FTy → Type} [FloatOps F]
-- ==== Proof.KernelIdealCopy.lean ====
/-
  What the kernel leaves in its result (over the extended reals).
  Each of the 16 grid points copies its block of 512 rows of the table into the same rows of the call's result, and the
  host line after the call gives that array a leading axis of length 1.
-/
module

public import proofs.«01_k».proof.Proof.Gen.KernelIdeal.Frame
public import Idealize.ShloMosaic.Lib.Pipeline.ValueKit

@[expose] public section

set_option maxRecDepth 16384

noncomputable section

namespace Cert.KernelIdeal.Value

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- At grid point `t` both windows hold block `t` of their arrays: rows `512 t` to `512 t + 511`, every column. -/
theorem block_index : ∀ t : Fin cfg0.N, win0_0.index t = ![t.val, 0] ∧ win0_1.index t = ![t.val, 0] :=
  (by decide +kernel : ∀ t : Fin grid0.N, _)

/-- After the last grid point the call's result array is the table. -/
theorem copied (c : Dev nD) : (dats m 0 c).arrAt 1 (cfgs 0).N = m ((c : Thread nD τ).loc main_arg1) := by
  refine (dats m 0 c).arrAt_eq_of_covers 1 _ (by decide +kernel) fun t _ y => ?_
  blk_simp
  rw [after0_1]
  frame_out
  blk_point [iblk, V, block_index t]

/-- The table with a leading axis of length 1. -/
abbrev lifted (X : FVec F S8192x1024 .f32) : FVec F S1x8192x1024 .f32 :=
  broadcastInDim S1x8192x1024 ![1, 2] bcast_S8192x1024_S1x8192x1024_1_2 X

/-- The host line after the call leaves in the kernel's result the table with a leading axis. -/
theorem result (c : Dev nD) : Pipeline.afterTail₀ cfgs (dats m) 0 (V0 m) [hostOps1] c main_v1
    = lifted (m ((c : Thread nD τ).loc main_arg1)) := by
  unfold Pipeline.afterTail₀
  simp only [hostOps1, List.flatten_cons, List.flatten_nil, List.append_nil]
  after_results
  exact congrArg lifted ((Pipeline.withArrays_arr _ launch0.win.arr_inj c _ _ 1).trans (copied m c))

/-- Every run of the kernel ends with the table, under a leading axis, in its result and with its arguments unchanged. -/
theorem run (g : Dev nD → PrngReg) :
    θ_run (defs (F := F)) (onTc (τ := τ) (main (F := F))) ⟨m, fun _ => 0, g⟩ (fun r => ∀ c : Dev nD,
      r.2.mem ((c.tc : Thread nD τ).loc main_v1) = lifted (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  run_from run_main m g
  · exact result m c
  · exact W_main_arg0 m (dats m) c

end Cert.KernelIdeal.Value

end
-- ==== Proof.RowGather.lean ====
/-
  The lookup of a table's rows, as mathematics over any element type.
  `jnp.take(table, positions, axis=0)` at an integer array of positions is a row gather between two steps that make it
  total: a negative position counts from the table's end, and a position that is still outside the table reads NaN.
  This module says what the gather reads, and that both steps leave a position inside the table alone.
-/
module

public import Idealize.ShloMosaic.Lib.Pipeline.ValueKit
public import Idealize.ShloMosaic.Lib.Tactic.WordOmega

@[expose] public section

noncomputable section

namespace Cert.RowGather

open Idealize.ShloMosaic

/-- The row gather's dimension numbers: operand `[N, C]`, positions `[B, L, 1]`, result `[B, L, C]`. Axis 0 of the
    operand is the one looked up, axis 2 of the result runs along the row. -/
abbrev rowDims (N C B L : Nat)
    (wf : GatherDims.WF ⟨2, ![N, C]⟩ ⟨3, ![B, L, 1]⟩ ⟨3, ![B, L, C]⟩ [2] [0] [] [0] [] 2 ![1, C]) :
    GatherDims ⟨2, ![N, C]⟩ ⟨3, ![B, L, 1]⟩ ⟨3, ![B, L, C]⟩ where
  offsetDims := [2]
  collapsedSliceDims := [0]
  operandBatchingDims := []
  startIndicesBatchingDims := []
  startIndexMap := [0]
  indexVectorDim := 2
  sliceSizes := ![1, C]
  wf := wf

/-- Element `(b, l, e)` of the row gather is element `e` of the row at position `(b, l)`, the position read as a signed
    number and moved into the table where it lies outside. -/
theorem gather_row_apply {α : Type} {N C B L w : Nat} (hN : 0 < N)
    (wf : GatherDims.WF ⟨2, ![N, C]⟩ ⟨3, ![B, L, 1]⟩ ⟨3, ![B, L, C]⟩ [2] [0] [] [0] [] 2 ![1, C])
    (x : (⟨2, ![N, C]⟩ : Shape).Idx → α) (pos : IVec ⟨3, ![B, L, 1]⟩ w) (b : Fin B) (l : Fin L) (e : Fin C) :
    Host.gather (rowDims N C B L wf) x pos (ix3 b l e)
      = x (ix2 ⟨min (pos (ix3 b l 0)).toInt.toNat (N - 1), by omega⟩ e) := by
  unfold Host.gather
  refine congrArg x (funext fun a => Fin.ext ?_)
  show (rowDims N C B L wf).start (ix3 b l e) pos a + (rowDims N C B L wf).batchCoord (ix3 b l e) a
      + (rowDims N C B L wf).offCoord (ix3 b l e) a = _
  rw [GatherDims.batchCoord_eq_zero _ _ _ List.not_mem_nil, Nat.add_zero]
  fin_cases a
  · have at_pos : (rowDims N C B L wf).siIdx (ix3 b l e) ⟨0, Nat.one_pos⟩ = ix3 b l 0 := by
      funext k; fin_cases k <;> rfl
    have hoff : (rowDims N C B L wf).offCoord (ix3 b l e) 0 = 0 :=
      GatherDims.offCoord_eq_zero _ _ _ fun h => ((GatherDims.mem_sKept _ _).mp h).1 (by simp)
    have hstart : (rowDims N C B L wf).start (ix3 b l e) pos 0 = min (pos (ix3 b l 0)).toInt.toNat (N - 1) := by
      rw [← at_pos]; unfold GatherDims.start; rw [dif_pos (by simp)]; rfl
    exact (congrArg₂ (· + ·) hstart hoff).trans (Nat.add_zero _)
  · have hstart : (rowDims N C B L wf).start (ix3 b l e) pos 1 = 0 := by
      unfold GatherDims.start; rw [dif_neg (by simp)]
    have hoff : (rowDims N C B L wf).offCoord (ix3 b l e) 1 = e.val := rfl
    exact (congrArg₂ (· + ·) hstart hoff).trans (Nat.zero_add _)

/-- As a signed word, a position inside the table is its number. -/
theorem toInt_position {n : Nat} (hn : n < 8192) : (BitVec.ofNat 32 n).toInt = n := by
  rw [BitVec.toInt_ofNat', Int.bmod_eq_of_le (by omega) (by omega)]

/-- jnp's wrap of negative positions, `if p < 0 then p + 8192 else p`, leaves a position inside the table alone. -/
theorem wrap_position {n : Nat} (hn : n < 8192) :
    Scalar.select (IntOp.cmpi .slt (BitVec.ofNat 32 n) 0#32) (IntOp.addi (BitVec.ofNat 32 n) 8192#32) (BitVec.ofNat 32 n)
      = BitVec.ofNat 32 n := by
  have hneg : IntOp.cmpi .slt (BitVec.ofNat 32 n) 0#32 = 0#1 := by
    simp only [IntOp.cmpi, BitVec.slt, toInt_position hn]
    simp [show ¬ (n : Int) < 0 by omega]
  simp [hneg, Scalar.select]

/-- The test "`0 ≤ p` and `p ≤ 8191`" of a position inside the table is passed. -/
theorem inside_position {n : Nat} (hn : n < 8192) :
    IntOp.andi (IntOp.cmpi .sge (BitVec.ofNat 32 n) 0#32) (IntOp.cmpi .sle (BitVec.ofNat 32 n) 8191#32) = 1#1 := by
  have hle : n ≤ 8191 := by omega
  simp [IntOp.cmpi, IntOp.andi, BitVec.sle, toInt_position hn, hle]

/-- The conjunction of tests that are all passed is passed. -/
theorem fold_passed {ι : Type} (s : Finset ι) : s.fold IntOp.andi (1#1) (fun _ => 1#1) = 1#1 := by
  classical
  induction s using Finset.induction_on with
  | empty => rfl
  | insert a s ha ih => rw [Finset.fold_insert ha, ih]; decide

end Cert.RowGather

end
-- ==== Proof.ReferenceIdealRows.lean ====
/-
  What the reference leaves in its result (over the extended reals): row `l` of the table, for every position `l`.
-/
module

public import proofs.«01_k».proof.ReferenceIdeal
public import proofs.«01_k».proof.Proof.Gen.ReferenceIdeal
public import proofs.«01_k».proof.Proof.RowGather
public import Idealize.ShloMosaic.Lib.Tactic.CleanTypes
public import Idealize.ShloMosaic.Lib.StableHlo.ReadAt

@[expose] public section

set_option maxRecDepth 16384

noncomputable section

namespace Cert.ReferenceIdeal.Value

open Idealize.ShloMosaic Idealize.ShloMosaic.TcCoe Idealize.SL.Sem
open Cert.ReferenceIdeal Cert.ReferenceIdeal.Gen Cert.RowGather

variable {F : FTy → Type} [FloatOps F]
variable (m : (ℓ : Loc nD τ sig) → Buf (Elt F) ℓ)

/-- The rows of the table in order: element `(b, l, e)` is element `e` of row `l`. -/
abbrev rows (X : FVec F S8192x1024 .f32) : FVec F S1x8192x1024 .f32 :=
  fun j => X (ix2 (n0 := 8192) (n1 := 1024) (j 1) (j 2))

/-- Every run of the reference ends with the table's rows in its result and with its arguments unchanged. -/
theorem run (g : Dev nD → PrngReg) :
    θ_run (defs (F := F)) (onTc (τ := τ) (main (F := F))) ⟨m, fun _ => 0, g⟩ (fun r => ∀ c : Dev nD,
      r.2.mem ((c.tc : Thread nD τ).loc main_v2) = rows (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  funext j
  change S1x8192x1024.Idx at j
  simp only [StableHlo.TRef.ofBuf_toBuf]
  simp only [StableHlo.TRef.toBuf, StableHlo.TRef.ofBuf, cast_eq]
  clean_types
  idx_vars j
  pointwise
  have inside := inside_position j1.isLt
  have kept := wrap_position j1.isLt
  rw [kept, inside, fold_passed]
  refine (gather_row_apply (by decide) _ _ _ j0 j1 j2).trans ?_
  pointwise
  refine congrArg (fun r => m ((c.tc : Thread nD τ).loc main_arg1) (ix2 r j2)) (Fin.ext ?_)
  have hj := j1.isLt
  show min _ 8191 = j1.val
  rw [kept, toInt_position hj]
  omega

end Cert.ReferenceIdeal.Value

end
-- ==== Proof.lean ====
/-
  The proof of `Cert.Claim`: the kernel and the reference, on machine words and over the extended reals, all run to their
  end, leave their arguments and every semaphore counter as they found them, and return the same array.
  Both return the table with a leading axis of length 1: the kernel because its blocks tile the table
  (`…Copy`), the reference because position `l` is `l` (`…Rows`).
-/
module

public import proofs.«01_k».proof.Defs
public import proofs.«01_k».proof.Proof.Gen.Kernel
public import proofs.«01_k».proof.Proof.Gen.Kernel.Frame
public import proofs.«01_k».proof.Proof.Gen.Reference
public import proofs.«01_k».proof.Proof.Gen.KernelIdeal
public import proofs.«01_k».proof.Proof.Gen.KernelIdeal.Frame
public import proofs.«01_k».proof.Proof.Gen.ReferenceIdeal
public import proofs.«01_k».proof.Proof.KernelCopy
public import proofs.«01_k».proof.Proof.KernelIdealCopy
public import proofs.«01_k».proof.Proof.ReferenceRows
public import proofs.«01_k».proof.Proof.ReferenceIdealRows
public import Idealize.ShloMosaic.Adequacy
public import Idealize.ShloMosaic.Init

@[expose] public section

set_option maxRecDepth 16384

noncomputable section

namespace Cert.Proof

open Idealize.ShloMosaic Idealize.SL.Sem

/-- The table under a leading axis is the array of its rows: the results of the two ideal programs. -/
theorem lifted_eq_rows_ideal {F : FTy → Type} [FloatOps F] (X : FVec F Cert.KernelIdeal.S8192x1024 .f32) :
    Cert.KernelIdeal.Value.lifted X = Cert.ReferenceIdeal.Value.rows X := by
  funext j
  pointwise

/-- The same of the two programs on machine words. -/
theorem lifted_eq_rows {F : FTy → Type} [FloatOps F] (X : FVec F Cert.Kernel.S8192x1024 .f32) :
    Cert.Kernel.Value.lifted X = Cert.Reference.Value.rows X :=
  lifted_eq_rows_ideal X

/-- The reference on machine words runs and leaves its arguments and the counters as it found them. -/
theorem frame_reference : Cert.quiescent_Reference := fun m g _ =>
  (θ_run _ _ _).mono (fun r h => ⟨fun c => (h c).2, sem_eq_zero_of_no_sems (by decide) r.2⟩)
    (Cert.Reference.Value.run m g)

/-- The reference over the extended reals runs and leaves its arguments and the counters as it found them. -/
theorem frame_referenceIdeal : Cert.quiescent_ReferenceIdeal := fun m g _ =>
  (θ_run _ _ _).mono (fun r h => ⟨fun c => (h c).2, sem_eq_zero_of_no_sems (by decide) r.2⟩)
    (Cert.ReferenceIdeal.Value.run m g)

/-- Over the extended reals the kernel and the reference return the same array. -/
theorem algebraic : Cert.algebraic_KernelIdeal_ReferenceIdeal := by
  intro m g m' g' _ agree
  refine ⟨_, Cert.KernelIdeal.Value.run m g, (θ_run _ _ _).mono (fun r h c => ⟨?_, (h c).2⟩)
    (Cert.ReferenceIdeal.Value.run m' g')⟩
  rw [(h c).1, (agree c).2]
  exact (lifted_eq_rows_ideal _).symm

/-- On machine words the kernel and the reference return the same array, bit for bit. -/
theorem bitexact : Cert.bitexact_Kernel_Reference := by
  intro m g m' g' _ agree
  refine ⟨_, Cert.Kernel.Value.run m g, (θ_run _ _ _).mono (fun r h c => ⟨?_, (h c).2⟩)
    (Cert.Reference.Value.run m' g')⟩
  rw [(h c).1, (agree c).2]
  exact (lifted_eq_rows _).symm

/-- Everything that the certificate claims. -/
theorem claim : Cert.Claim :=
  ⟨Cert.Kernel.Gen.facts, Cert.Reference.Gen.facts, Cert.KernelIdeal.Gen.facts, Cert.ReferenceIdeal.Gen.facts,
    fun m g _ => Cert.Kernel.Gen.frame m g, frame_reference, fun m g _ => Cert.KernelIdeal.Gen.frame m g,
    frame_referenceIdeal, trivial, algebraic, bitexact⟩

end Cert.Proof

end
